-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512 : Shape := ⟨2, ![16, 512]⟩
abbrev S1000x1x512 : Shape := ⟨3, ![1000, 1, 512]⟩
abbrev S1000x60x512 : Shape := ⟨3, ![1000, 60, 512]⟩
abbrev S100x1x512 : Shape := ⟨3, ![100, 1, 512]⟩
abbrev S100x60x512 : Shape := ⟨3, ![100, 60, 512]⟩
abbrev S60x1000x512 : Shape := ⟨3, ![60, 1000, 512]⟩
abbrev S60x100x512 : Shape := ⟨3, ![60, 100, 512]⟩
abbrev S77x1100x512 : Shape := ⟨3, ![77, 1100, 512]⟩
abbrev S1x1000x512 : Shape := ⟨3, ![1, 1000, 512]⟩
abbrev S1x100x512 : Shape := ⟨3, ![1, 100, 512]⟩
abbrev S2x1100x512 : Shape := ⟨3, ![2, 1100, 512]⟩
abbrev S1000x512 : Shape := ⟨2, ![1000, 512]⟩
abbrev S100x512 : Shape := ⟨2, ![100, 512]⟩
abbrev S1x512 : Shape := ⟨2, ![1, 512]⟩
abbrev S1100x77x512 : Shape := ⟨3, ![1100, 77, 512]⟩

abbrev nBuf : Space → Nat
  | .hbm => 10
  | .vmem => 14
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S1000x1x512, .f32⟩
  | .hbm, ⟨3, _⟩ => ⟨S1000x60x512, .f32⟩
  | .hbm, ⟨4, _⟩ => ⟨S100x1x512, .f32⟩
  | .hbm, ⟨5, _⟩ => ⟨S100x60x512, .f32⟩
  | .hbm, ⟨6, _⟩ => ⟨S60x1000x512, .f32⟩
  | .hbm, ⟨7, _⟩ => ⟨S60x100x512, .f32⟩
  | .hbm, ⟨8, _⟩ => ⟨S77x1100x512, .f32⟩
  | .hbm, ⟨9, _⟩ => ⟨S1100x77x512, .f32⟩
  | .local _ .vmem, ⟨0, _⟩ => ⟨S1000x1x512, .f32⟩
  | .local _ .vmem, ⟨1, _⟩ => ⟨S100x1x512, .f32⟩
  | .local _ .vmem, ⟨2, _⟩ => ⟨S1x1000x512, .f32⟩
  | .local _ .vmem, ⟨3, _⟩ => ⟨S1x1000x512, .f32⟩
  | .local _ .vmem, ⟨4, _⟩ => ⟨S1x1000x512, .f32⟩
  | .local _ .vmem, ⟨5, _⟩ => ⟨S1x1000x512, .f32⟩
  | .local _ .vmem, ⟨6, _⟩ => ⟨S1x100x512, .f32⟩
  | .local _ .vmem, ⟨7, _⟩ => ⟨S1x100x512, .f32⟩
  | .local _ .vmem, ⟨8, _⟩ => ⟨S1x100x512, .f32⟩
  | .local _ .vmem, ⟨9, _⟩ => ⟨S1x100x512, .f32⟩
  | .local _ .vmem, ⟨10, _⟩ => ⟨S16x512, .f32⟩
  | .local _ .vmem, ⟨11, _⟩ => ⟨S16x512, .f32⟩
  | .local _ .vmem, ⟨12, _⟩ => ⟨S2x1100x512, .f32⟩
  | .local _ .vmem, ⟨13, _⟩ => ⟨S2x1100x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![39], ![false]⟩

def k0_cond2 (i : grid0.Coords) : BitVec 1 :=
  let c2_i32 : BitVec 32 := 2#32
  let c38_i32 : BitVec 32 := 38#32
  let arg0 : BitVec 32 := BitVec.ofNat 32 (i 0).val
  let v0 : BitVec 32 := Scalar.subi c38_i32 arg0
  let v1 : BitVec 32 := Scalar.muli c2_i32 v0
  let c0_i32 : BitVec 32 := 0#32
  let v2 : BitVec 32 := Scalar.addi v1 c0_i32
  let c1_i32 : BitVec 32 := 1#32
  let v6 : BitVec 1 := Scalar.cmpi .sge v2 c1_i32
  let c17_i32 : BitVec 32 := 17#32
  let v7 : BitVec 1 := Scalar.cmpi .slt v2 c17_i32
  let v8 : BitVec 1 := Scalar.andi v6 v7
  let v9 : BitVec 32 := Scalar.extui v8
  let c0_i32_2 : BitVec 32 := 0#32
  let v10 : BitVec 1 := Scalar.cmpi .ne v9 c0_i32_2
  v10

def k0_off1 (i : grid0.Coords) : Fin 2 → Nat :=
  let c15_i32 : BitVec 32 := 15#32
  let c0_i32_15 : BitVec 32 := 0#32
  let c2_i32 : BitVec 32 := 2#32
  let c38_i32 : BitVec 32 := 38#32
  let arg0 : BitVec 32 := BitVec.ofNat 32 (i 0).val
  let v0 : BitVec 32 := Scalar.subi c38_i32 arg0
  let v1 : BitVec 32 := Scalar.muli c2_i32 v0
  let c0_i32 : BitVec 32 := 0#32
  let v2 : BitVec 32 := Scalar.addi v1 c0_i32
  let c1_i32_14 : BitVec 32 := 1#32
  let v27 : BitVec 32 := Scalar.subi v2 c1_i32_14
  let v28 : BitVec 32 := Scalar.maxsi c0_i32_15 v27
  let v29 : BitVec 32 := Scalar.minsi c15_i32 v28
  let v30 : Index := Scalar.indexCast v29
  let c0 : Index := 0#32
  ![v30.toNat, 0]
def k0_cond5 (i : grid0.Coords) : BitVec 1 :=
  let c2_i32_5 : BitVec 32 := 2#32
  let c38_i32 : BitVec 32 := 38#32
  let arg0 : BitVec 32 := BitVec.ofNat 32 (i 0).val
  let v0 : BitVec 32 := Scalar.subi c38_i32 arg0
  let v14 : BitVec 32 := Scalar.muli c2_i32_5 v0
  let c1_i32_6 : BitVec 32 := 1#32
  let v15 : BitVec 32 := Scalar.addi v14 c1_i32_6
  let c1_i32_9 : BitVec 32 := 1#32
  let v19 : BitVec 1 := Scalar.cmpi .sge v15 c1_i32_9
  let c17_i32_10 : BitVec 32 := 17#32
  let v20 : BitVec 1 := Scalar.cmpi .slt v15 c17_i32_10
  let v21 : BitVec 1 := Scalar.andi v19 v20
  let v22 : BitVec 32 := Scalar.extui v21
  let c0_i32_11 : BitVec 32 := 0#32
  let v23 : BitVec 1 := Scalar.cmpi .ne v22 c0_i32_11
  v23

def k0_off2 (i : grid0.Coords) : Fin 2 → Nat :=
  let c15_i32 : BitVec 32 := 15#32
  let c0_i32_15 : BitVec 32 := 0#32
  let c2_i32_5 : BitVec 32 := 2#32
  let c38_i32 : BitVec 32 := 38#32
  let arg0 : BitVec 32 := BitVec.ofNat 32 (i 0).val
  let v0 : BitVec 32 := Scalar.subi c38_i32 arg0
  let v14 : BitVec 32 := Scalar.muli c2_i32_5 v0
  let c1_i32_6 : BitVec 32 := 1#32
  let v15 : BitVec 32 := Scalar.addi v14 c1_i32_6
  let c1_i32_14 : BitVec 32 := 1#32
  let v27 : BitVec 32 := Scalar.subi v15 c1_i32_14
  let v28 : BitVec 32 := Scalar.maxsi c0_i32_15 v27
  let v29 : BitVec 32 := Scalar.minsi c15_i32 v28
  let v30 : Index := Scalar.indexCast v29
  let c0 : Index := 0#32
  ![v30.toNat, 0]
def k0_cond1 (i : grid0.Coords) : BitVec 1 :=
  let c2_i32 : BitVec 32 := 2#32
  let c38_i32 : BitVec 32 := 38#32
  let arg0 : BitVec 32 := BitVec.ofNat 32 (i 0).val
  let v0 : BitVec 32 := Scalar.subi c38_i32 arg0
  let v1 : BitVec 32 := Scalar.muli c2_i32 v0
  let c0_i32 : BitVec 32 := 0#32
  let v2 : BitVec 32 := Scalar.addi v1 c0_i32
  let c0_i32_0 : BitVec 32 := 0#32
  let v3 : BitVec 1 := Scalar.cmpi .eq v2 c0_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let c2_i32 : BitVec 32 := 2#32
  let c38_i32 : BitVec 32 := 38#32
  let arg0 : BitVec 32 := BitVec.ofNat 32 (i 0).val
  let v0 : BitVec 32 := Scalar.subi c38_i32 arg0
  let v1 : BitVec 32 := Scalar.muli c2_i32 v0
  let c0_i32 : BitVec 32 := 0#32
  let v2 : BitVec 32 := Scalar.addi v1 c0_i32
  let c17_i32_3 : BitVec 32 := 17#32
  let v11 : BitVec 1 := Scalar.cmpi .sge v2 c17_i32_3
  let v12 : BitVec 32 := Scalar.extui v11
  let c0_i32_4 : BitVec 32 := 0#32
  let v13 : BitVec 1 := Scalar.cmpi .ne v12 c0_i32_4
  v13

def k0_cond4 (i : grid0.Coords) : BitVec 1 :=
  let c2_i32_5 : BitVec 32 := 2#32
  let c38_i32 : BitVec 32 := 38#32
  let arg0 : BitVec 32 := BitVec.ofNat 32 (i 0).val
  let v0 : BitVec 32 := Scalar.subi c38_i32 arg0
  let v14 : BitVec 32 := Scalar.muli c2_i32_5 v0
  let c1_i32_6 : BitVec 32 := 1#32
  let v15 : BitVec 32 := Scalar.addi v14 c1_i32_6
  let c0_i32_7 : BitVec 32 := 0#32
  let v16 : BitVec 1 := Scalar.cmpi .eq v15 c0_i32_7
  let v17 : BitVec 32 := Scalar.extui v16
  let c0_i32_8 : BitVec 32 := 0#32
  let v18 : BitVec 1 := Scalar.cmpi .ne v17 c0_i32_8
  v18

def k0_cond6 (i : grid0.Coords) : BitVec 1 :=
  let c2_i32_5 : BitVec 32 := 2#32
  let c38_i32 : BitVec 32 := 38#32
  let arg0 : BitVec 32 := BitVec.ofNat 32 (i 0).val
  let v0 : BitVec 32 := Scalar.subi c38_i32 arg0
  let v14 : BitVec 32 := Scalar.muli c2_i32_5 v0
  let c1_i32_6 : BitVec 32 := 1#32
  let v15 : BitVec 32 := Scalar.addi v14 c1_i32_6
  let c17_i32_12 : BitVec 32 := 17#32
  let v24 : BitVec 1 := Scalar.cmpi .sge v15 c17_i32_12
  let v25 : BitVec 32 := Scalar.extui v24
  let c0_i32_13 : BitVec 32 := 0#32
  let v26 : BitVec 1 := Scalar.cmpi .ne v25 c0_i32_13
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c38_i32 : BitVec 32 := 38#32
  let v0 : BitVec 32 := Scalar.subi c38_i32 arg0
  let c2_i32 : BitVec 32 := 2#32
  let v1 : BitVec 32 := Scalar.muli c2_i32 v0
  let c0_i32 : BitVec 32 := 0#32
  let v2 : BitVec 32 := Scalar.addi v1 c0_i32
  let c17_i32 : BitVec 32 := 17#32
  let v3 : BitVec 32 := Scalar.subi v2 c17_i32
  let c0_i32_0 : BitVec 32 := 0#32
  let c59_i32 : BitVec 32 := 59#32
  let v4 : BitVec 32 := Scalar.maxsi c0_i32_0 v3
  let v5 : BitVec 32 := Scalar.minsi c59_i32 v4
  let c0_i32_1 : BitVec 32 := 0#32
  let c0_i32_2 : BitVec 32 := 0#32
  let c0_i32_3 : BitVec 32 := 0#32
  ![v5.toNat, c0_i32_1.toNat, c0_i32_2.toNat]

def cc0_transform_3 (i : grid0.Coords) : Fin 3 → Nat :=
  let arg0 : BitVec 32 := BitVec.ofNat 32 (i 0).val
  let c38_i32 : BitVec 32 := 38#32
  let v0 : BitVec 32 := Scalar.subi c38_i32 arg0
  let c2_i32 : BitVec 32 := 2#32
  let v1 : BitVec 32 := Scalar.muli c2_i32 v0
  let c1_i32 : BitVec 32 := 1#32
  let v2 : BitVec 32 := Scalar.addi v1 c1_i32
  let c17_i32 : BitVec 32 := 17#32
  let v3 : BitVec 32 := Scalar.subi v2 c17_i32
  let c0_i32 : BitVec 32 := 0#32
  let c59_i32 : BitVec 32 := 59#32
  let v4 : BitVec 32 := Scalar.maxsi c0_i32 v3
  let v5 : BitVec 32 := Scalar.minsi c59_i32 v4
  let c0_i32_0 : BitVec 32 := 0#32
  let c0_i32_1 : BitVec 32 := 0#32
  let c0_i32_2 : BitVec 32 := 0#32
  ![v5.toNat, c0_i32_0.toNat, c0_i32_1.toNat]

def cc0_transform_4 (i : grid0.Coords) : Fin 3 → Nat :=
  let arg0 : BitVec 32 := BitVec.ofNat 32 (i 0).val
  let c38_i32 : BitVec 32 := 38#32
  let v0 : BitVec 32 := Scalar.subi c38_i32 arg0
  let c2_i32 : BitVec 32 := 2#32
  let v1 : BitVec 32 := Scalar.muli c2_i32 v0
  let c0_i32 : BitVec 32 := 0#32
  let v2 : BitVec 32 := Scalar.addi v1 c0_i32
  let c17_i32 : BitVec 32 := 17#32
  let v3 : BitVec 32 := Scalar.subi v2 c17_i32
  let c0_i32_0 : BitVec 32 := 0#32
  let c59_i32 : BitVec 32 := 59#32
  let v4 : BitVec 32 := Scalar.maxsi c0_i32_0 v3
  let v5 : BitVec 32 := Scalar.minsi c59_i32 v4
  let c0_i32_1 : BitVec 32 := 0#32
  let c0_i32_2 : BitVec 32 := 0#32
  let c0_i32_3 : BitVec 32 := 0#32
  ![v5.toNat, c0_i32_1.toNat, c0_i32_2.toNat]

def cc0_transform_5 (i : grid0.Coords) : Fin 3 → Nat :=
  let arg0 : BitVec 32 := BitVec.ofNat 32 (i 0).val
  let c38_i32 : BitVec 32 := 38#32
  let v0 : BitVec 32 := Scalar.subi c38_i32 arg0
  let c2_i32 : BitVec 32 := 2#32
  let v1 : BitVec 32 := Scalar.muli c2_i32 v0
  let c1_i32 : BitVec 32 := 1#32
  let v2 : BitVec 32 := Scalar.addi v1 c1_i32
  let c17_i32 : BitVec 32 := 17#32
  let v3 : BitVec 32 := Scalar.subi v2 c17_i32
  let c0_i32 : BitVec 32 := 0#32
  let c59_i32 : BitVec 32 := 59#32
  let v4 : BitVec 32 := Scalar.maxsi c0_i32 v3
  let v5 : BitVec 32 := Scalar.minsi c59_i32 v4
  let c0_i32_0 : BitVec 32 := 0#32
  let c0_i32_1 : BitVec 32 := 0#32
  let c0_i32_2 : BitVec 32 := 0#32
  ![v5.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c38_i32 : BitVec 32 := 38#32
  let v0 : BitVec 32 := Scalar.subi c38_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S1000x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x100x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x100x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x1100x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x512 : Shape := ⟨2, ![16, 512]⟩
abbrev S1000x1x512 : Shape := ⟨3, ![1000, 1, 512]⟩
abbrev S1000x60x512 : Shape := ⟨3, ![1000, 60, 512]⟩
abbrev S100x1x512 : Shape := ⟨3, ![100, 1, 512]⟩
abbrev S100x60x512 : Shape := ⟨3, ![100, 60, 512]⟩
abbrev S1x16x512 : Shape := ⟨3, ![1, 16, 512]⟩
abbrev S1000x16x512 : Shape := ⟨3, ![1000, 16, 512]⟩
abbrev S100x16x512 : Shape := ⟨3, ![100, 16, 512]⟩
abbrev S1000x77x512 : Shape := ⟨3, ![1000, 77, 512]⟩
abbrev S100x77x512 : Shape := ⟨3, ![100, 77, 512]⟩
abbrev S1100x77x512 : Shape := ⟨3, ![1100, 77, 512]⟩

abbrev nBuf : Space → Nat
  | .hbm => 13
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S1000x1x512, .f32⟩
  | .hbm, ⟨3, _⟩ => ⟨S1000x60x512, .f32⟩
  | .hbm, ⟨4, _⟩ => ⟨S100x1x512, .f32⟩
  | .hbm, ⟨5, _⟩ => ⟨S100x60x512, .f32⟩
  | .hbm, ⟨6, _⟩ => ⟨S1x16x512, .f32⟩
  | .hbm, ⟨7, _⟩ => ⟨S1000x16x512, .f32⟩
  | .hbm, ⟨8, _⟩ => ⟨S1x16x512, .f32⟩
  | .hbm, ⟨9, _⟩ => ⟨S100x16x512, .f32⟩
  | .hbm, ⟨10, _⟩ => ⟨S1000x77x512, .f32⟩
  | .hbm, ⟨11, _⟩ => ⟨S100x77x512, .f32⟩
  | .hbm, ⟨12, _⟩ => ⟨S1100x77x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Run.lean ====
/-
  THE RUN of the idealized kernel. The grid has 39 points; point `t` writes the two token slabs `2 * (38 - t)` and
  `2 * (38 - t) + 1` of the token-major result, each as one store of the 1000 in-distribution rows and one of the 100
  out-of-distribution rows. Here: the four stores of every point as one list of pieces (`pieces`), what they leave in the
  result's staging buffer (`leaves`), and the run of the whole program from them (`run_main`, `frame`).
-/
module

public import proofs.«01_k».proof.Proof.Gen.KernelIdeal.Frame.RunD
public import Idealize.ShloMosaic.Lib.Claim

@[expose] public section

set_option maxRecDepth 16384

noncomputable section

namespace Cert.Prompt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 39 points. -/
theorem lt_39 (t : Fin cfg0.N) : t.val < 39 := lt_of_lt_of_eq t.isLt (show cfg0.N = 39 from N_0)

/-! ## The stores of a point -/
/-- The body's run at the points before 30: a slab of suffix rows, then another. -/
def runA (c : Dev nD) (t : Fin cfg0.N) (h : t.val < 30) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun hc => absurd ((hcond0_0 t).mp hc) (by have := lt_39 t; omega))
    (fun hc => absurd ((hcond0_1 t).mp hc) (by have := lt_39 t; omega))
    ((hcond0_2 t).mpr (by have := lt_39 t; omega))
    (hcond0_3 t)
    (fun hc => absurd ((hcond0_4 t).mp hc) (by have := lt_39 t; omega))
    ((hcond0_5 t).mpr (by have := lt_39 t; omega))
    (iblk m c 0 t) (iblk m c 1 t) (iblk m c 2 t) (iblk m c 3 t) (iblk m c 4 t) (iblk m c 5 t) (iblk m c 6 t) (iblk m c 7 t)
/-- The body's run at point 30: the last context slab, then the first slab of suffix rows. -/
def runB (c : Dev nD) (t : Fin cfg0.N) (h : ¬t.val < 30) (h' : t.val < 31) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun hc => absurd ((hcond0_0 t).mp hc) (by have := lt_39 t; omega))
    ((hcond0_1 t).mpr (by have := lt_39 t; omega))
    (fun hc => absurd ((hcond0_2 t).mp hc) (by have := lt_39 t; omega))
    (hcond0_3 t)
    (fun hc => absurd ((hcond0_4 t).mp hc) (by have := lt_39 t; omega))
    ((hcond0_5 t).mpr (by have := lt_39 t; omega))
    (iblk m c 0 t) (iblk m c 1 t) (iblk m c 2 t) (iblk m c 3 t) (iblk m c 4 t) (iblk m c 5 t) (iblk m c 6 t) (iblk m c 7 t)
/-- The body's run at the points from 31 to 37: two context slabs. -/
def runC (c : Dev nD) (t : Fin cfg0.N) (h : ¬t.val < 31) (h' : t.val < 38) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun hc => absurd ((hcond0_0 t).mp hc) (by have := lt_39 t; omega))
    ((hcond0_1 t).mpr (by have := lt_39 t; omega))
    (fun hc => absurd ((hcond0_2 t).mp hc) (by have := lt_39 t; omega))
    (hcond0_3 t)
    ((hcond0_4 t).mpr (by have := lt_39 t; omega))
    (fun hc => absurd ((hcond0_5 t).mp hc) (by have := lt_39 t; omega))
    (iblk m c 0 t) (iblk m c 1 t) (iblk m c 2 t) (iblk m c 3 t) (iblk m c 4 t) (iblk m c 5 t) (iblk m c 6 t) (iblk m c 7 t)
/-- The body's run at point 38: the prefix slab, then the first context slab. -/
def runD (c : Dev nD) (t : Fin cfg0.N) (h : ¬t.val < 38) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr (by have := lt_39 t; omega))
    (fun hc => absurd ((hcond0_1 t).mp hc) (by have := lt_39 t; omega))
    (fun hc => absurd ((hcond0_2 t).mp hc) (by have := lt_39 t; omega))
    (hcond0_3 t)
    ((hcond0_4 t).mpr (by have := lt_39 t; omega))
    (fun hc => absurd ((hcond0_5 t).mp hc) (by have := lt_39 t; omega))
    (iblk m c 0 t) (iblk m c 1 t) (iblk m c 2 t) (iblk m c 3 t) (iblk m c 4 t) (iblk m c 5 t) (iblk m c 6 t) (iblk m c 7 t)
/-- The pieces the body's stores leave in the result's staging buffer at point `t`, the last store first. -/
def pieces (c : Dev nD) (t : Fin cfg0.N) : List (View.Piece (Elt F) S2x1100x512 .f32) :=
  if hA : t.val < 30 then (runA m c t hA).1
  else if hB : t.val < 31 then (runB m c t hA hB).1
  else if hC : t.val < 38 then (runC m c t hB hC).1
  else (runD m c t hC).1

/-- A property of the pieces of every point is one of the pieces of the four kinds of points. -/
theorem pieces_cases (c : Dev nD) (t : Fin cfg0.N) {Q : List (View.Piece (Elt F) S2x1100x512 .f32) → Prop}
    (hA : ∀ h, Q (runA m c t h).1) (hB : ∀ h h', Q (runB m c t h h').1) (hC : ∀ h h', Q (runC m c t h h').1)
    (hD : ∀ h, Q (runD m c t h).1) : Q (pieces m c t) := by
  unfold pieces
  split_ifs with h1 h2 h3
  exacts [hA h1, hB h1 h2, hC h2 h3, hD h3]

/-- The pieces of a point cover the buffer: cut into blocks of 100 rows they tile it. -/
theorem pieces_cover (c : Dev nD) (t : Fin cfg0.N) : ∀ y, ∃ pc ∈ pieces m c t, y ∈ pc.1.set :=
  pieces_cases m c t (Q := fun L => ∀ y, ∃ pc ∈ L, y ∈ pc.1.set)
    (fun h => View.cover_of_tiledBy (runA m c t h).1 ![1, 100, 512] (by sl_kernel_rfl))
    (fun h h' => View.cover_of_tiledBy (runB m c t h h').1 ![1, 100, 512] (by sl_kernel_rfl))
    (fun h h' => View.cover_of_tiledBy (runC m c t h h').1 ![1, 100, 512] (by sl_kernel_rfl))
    (fun h => View.cover_of_tiledBy (runD m c t h).1 ![1, 100, 512] (by sl_kernel_rfl))

/-- What point `t` leaves in the result's staging buffer: its pieces read back. -/
def leaves (c : Dev nD) (t : Fin cfg0.N) : Vec F S2x1100x512 .f32 :=
  VO0_8.read (Elt F) (VO0_8.writes (Elt F) VO0_8.junk (pieces m c t))

/-- At point `t` the body leaves the pieces `L`: from the input buffers at their blocks and the result's at anything, it
    ends with the inputs as they were and the result's buffer with the pieces written. -/
def Writes (c : Dev nD) (t : Fin cfg0.N) (L : List (View.Piece (Elt F) S2x1100x512 .f32)) : Prop :=
  ∀ (E : Set ℕ) (K : PUnit → sProp 𝕄),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t)
            ∗ (∃ f, (ms0_8 t).view.loc (c : Thread nD τ) ↦[(ms0_8 t).view.set]{fullShare} (ms0_8 t).view.writes (Elt F) f L)) -∗ K ⟨⟩))
      ⊢ wp frame (wpE (defs₀ (F := F)) Variants.none c none) E (bodyAt0 t) K

set_option maxHeartbeats 1600000 in
/-- At any point the body leaves the point's pieces. -/
theorem body_writes (c : Dev nD) (t : Fin cfg0.N) : Writes m c t (pieces m c t) := by
  refine pieces_cases m c t (fun h => ?_) (fun h h' => ?_) (fun h h' => ?_) (fun h => ?_)
  all_goals unfold Writes bodyAt0
  · exact (runA m c t h).2
  · exact (runB m c t h h').2
  · exact (runC m c t h h').2
  · exact (runD m c t h).2

/-! ## The pipeline's proof data -/

/-- The proof data of the pipeline on core `c`: the arrays as the region finds them; after the body each input's buffer at
    its block and the result's at `leaves`; nothing owed; an array several windows stage is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => leaves m c t
  Φ _ := Pipeline.ΦA spec0 c
  q w := Pipeline.shareOf spec0 w
  owed _ := 0

/-- The arrays are at their contents at the region's entry. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = leaves m c t := by dsimp only [dats]

/-! Each input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The result's window is stored into at every point. -/
theorem live_8 : ∀ t : Fin cfg0.N, cfg0.idle 8 (grid0.coords t) = false :=
  (by decide +kernel : ∀ t : Fin grid0.N, cfg0.idle 8 (grid0.coords t) = false)

/-! What the pipeline asks the body to leave, window by window. -/
theorem leavesExact_0 (c : Dev nD) (t : Fin cfg0.N) :
    (dats m 0 c).leavesExact 0 t = owns (c : Thread nD τ) (ms0_0 t) fullShare (iblk m c 0 t) := by
  unfold Dat.leavesExact; rw [liveAt0_0 t, after_0]
theorem leavesExact_1 (c : Dev nD) (t : Fin cfg0.N) :
    (dats m 0 c).leavesExact 1 t = owns (c : Thread nD τ) (ms0_1 t) fullShare (iblk m c 1 t) := by
  unfold Dat.leavesExact; rw [liveAt0_1 t, after_1]
theorem leavesExact_2 (c : Dev nD) (t : Fin cfg0.N) :
    (dats m 0 c).leavesExact 2 t = owns (c : Thread nD τ) (ms0_2 t) fullShare (iblk m c 2 t) := by
  unfold Dat.leavesExact; rw [liveAt0_2 t, after_2]
theorem leavesExact_3 (c : Dev nD) (t : Fin cfg0.N) :
    (dats m 0 c).leavesExact 3 t = owns (c : Thread nD τ) (ms0_3 t) fullShare (iblk m c 3 t) := by
  unfold Dat.leavesExact; rw [liveAt0_3 t, after_3]
theorem leavesExact_4 (c : Dev nD) (t : Fin cfg0.N) :
    (dats m 0 c).leavesExact 4 t = owns (c : Thread nD τ) (ms0_4 t) fullShare (iblk m c 4 t) := by
  unfold Dat.leavesExact; rw [liveAt0_4 t, after_4]
theorem leavesExact_5 (c : Dev nD) (t : Fin cfg0.N) :
    (dats m 0 c).leavesExact 5 t = owns (c : Thread nD τ) (ms0_5 t) fullShare (iblk m c 5 t) := by
  unfold Dat.leavesExact; rw [liveAt0_5 t, after_5]
theorem leavesExact_6 (c : Dev nD) (t : Fin cfg0.N) :
    (dats m 0 c).leavesExact 6 t = owns (c : Thread nD τ) (ms0_6 t) fullShare (iblk m c 6 t) := by
  unfold Dat.leavesExact; rw [liveAt0_6 t, after_6]
theorem leavesExact_7 (c : Dev nD) (t : Fin cfg0.N) :
    (dats m 0 c).leavesExact 7 t = owns (c : Thread nD τ) (ms0_7 t) fullShare (iblk m c 7 t) := by
  unfold Dat.leavesExact; rw [liveAt0_7 t, after_7]
theorem leavesExact_8 (c : Dev nD) (t : Fin cfg0.N) :
    (dats m 0 c).leavesExact 8 t = owns (c : Thread nD τ) (ms0_8 t) fullShare (leaves m c t) := by
  unfold Dat.leavesExact; rw [live_8 t, after_8]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
/-- The body at any point returns what the pipeline asks of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, leavesExact_0, leavesExact_1,
    leavesExact_2, leavesExact_3, leavesExact_4, leavesExact_5, leavesExact_6, leavesExact_7, leavesExact_8]
  rw [show (dats m 0 c).Φ t.succ = (dats m 0 c).Φ t.castSucc from rfl,
    show (dats m 0 c).owesAt () t.succ = (dats m 0 c).owesAt () t.castSucc from rfl]
  unfold leaves
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_writes m c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (pieces_cover m c t)

/-- The row of the body table at a point's slots is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/
-- `θ_run_frame_around_shared`'s implicit arguments are found by unifying its conclusion with this one, which takes unfolding plain
-- definitions in a metavariable's type
set_option backward.isDefEq.respectTransparency.types false in
set_option maxHeartbeats 800000 in
/-- From any memory with zero counters every weakly fair execution terminates, with every array of the pipeline at what the
    proof data say, every other buffer as the lines after the region leave it, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim's statement, at any float values: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Prompt

end
-- ==== Proof.Slabs.lean ====
/-
  WHAT ONE POINT STORES. Token `s` of a class's prompt is its prefix row for `s = 0`, row `s - 1` of the context for
  `1 ≤ s ≤ 16`, and row `s - 17` of its suffix from there on (`prompt`). The token-major result at token `s` holds the
  prompts of the 1000 in-distribution classes, then those of the 100 out-of-distribution ones (`slab`). Here: point `t`
  leaves tokens `2 * (38 - t)` and `2 * (38 - t) + 1` in the result's staging buffer (`leaves_at`).
-/
module

public import proofs.«01_k».proof.Proof.Run
public import Idealize.ShloMosaic.Lib.Pipeline.ValueKit
public import Idealize.ShloMosaic.Lib.Pointwise

@[expose] public section

set_option maxRecDepth 16384

noncomputable section

namespace Cert.Prompt

open Cert.KernelIdeal Cert.KernelIdeal.Gen
open Idealize.ShloMosaic Idealize.ShloMosaic.TcCoe

variable {F : FTy → Type} [FloatOps F]

/-- Token `s` of the prompt of class `n`, at lane `d`: the prefix row, then the 16 context rows, then the suffix rows
    (past the last token: the last suffix row). -/
def prompt {N : ℕ} (ctx : Vec F S16x512 .f32) (pre : Vec F ⟨3, ![N, 1, 512]⟩ .f32) (suf : Vec F ⟨3, ![N, 60, 512]⟩ .f32)
    (s : ℕ) (n : Fin N) (d : Fin 512) : Elt F .f32 :=
  if s = 0 then pre (ix3 n 0 d)
  else if h : s < 17 then ctx (ix2 ⟨s - 1, by omega⟩ d)
  else suf (ix3 n ⟨min (s - 17) 59, by omega⟩ d)

/-- Token 0 is the prefix row. -/
theorem prompt_prefix {N : ℕ} (ctx : Vec F S16x512 .f32) (pre : Vec F ⟨3, ![N, 1, 512]⟩ .f32) (suf : Vec F ⟨3, ![N, 60, 512]⟩ .f32)
    {s : ℕ} (h : s = 0) (n : Fin N) (d : Fin 512) : prompt ctx pre suf s n d = pre (ix3 n 0 d) := if_pos h

/-- Tokens 1 to 16 are the context rows. -/
theorem prompt_ctx {N : ℕ} (ctx : Vec F S16x512 .f32) (pre : Vec F ⟨3, ![N, 1, 512]⟩ .f32) (suf : Vec F ⟨3, ![N, 60, 512]⟩ .f32)
    {s : ℕ} (h0 : s ≠ 0) (h : s < 17) (n : Fin N) (d : Fin 512) :
    prompt ctx pre suf s n d = ctx (ix2 ⟨s - 1, by omega⟩ d) := (if_neg h0).trans (dif_pos h)

/-- Tokens from 17 on are the suffix rows. -/
theorem prompt_suffix {N : ℕ} (ctx : Vec F S16x512 .f32) (pre : Vec F ⟨3, ![N, 1, 512]⟩ .f32) (suf : Vec F ⟨3, ![N, 60, 512]⟩ .f32)
    {s : ℕ} (h : 17 ≤ s) (n : Fin N) (d : Fin 512) :
    prompt ctx pre suf s n d = suf (ix3 n ⟨min (s - 17) 59, by omega⟩ d) := (if_neg (by omega)).trans (dif_neg (by omega))

variable (m : (ℓ : Loc nD τ sig) → Buf (Elt F) ℓ)

/-- The prompts of the in-distribution classes, from the argument arrays. -/
abbrev promptIn (c : Dev nD) : ℕ → Fin 1000 → Fin 512 → Elt F .f32 :=
  prompt (m ((c.tc : Thread nD τ).loc main_arg0)) (m ((c.tc : Thread nD τ).loc main_arg2)) (m ((c.tc : Thread nD τ).loc main_arg3))

/-- The prompts of the out-of-distribution classes, from the argument arrays. -/
abbrev promptOut (c : Dev nD) : ℕ → Fin 100 → Fin 512 → Elt F .f32 :=
  prompt (m ((c.tc : Thread nD τ).loc main_arg1)) (m ((c.tc : Thread nD τ).loc main_arg4)) (m ((c.tc : Thread nD τ).loc main_arg5))

/-- Token `s` of all 1100 classes, at class `n` and lane `d`. -/
def slab (c : Dev nD) (s : ℕ) (n : Fin 1100) (d : Fin 512) : Elt F .f32 :=
  if h : n.val < 1000 then promptIn m c s ⟨n.val, h⟩ d else promptOut m c s ⟨n.val - 1000, by omega⟩ d

/-- Below class 1000 a slab holds the in-distribution prompts, -/
theorem slab_in (c : Dev nD) {s s' : ℕ} {n : Fin 1100} {k : Fin 1000} {d e : Fin 512} (hs : s' = s) (hn : n.val = k.val) (hd : d.val = e.val) :
    promptIn m c s k e = slab m c s' n d := by
  obtain rfl := Fin.ext hd
  subst hs
  exact ((dif_pos (show n.val < 1000 by omega)).trans (congrArg (fun i => promptIn m c s' i d) (Fin.ext hn))).symm

/-- and from there on the out-of-distribution prompts. -/
theorem slab_out (c : Dev nD) {s s' : ℕ} {n : Fin 1100} {k : Fin 100} {d e : Fin 512} (hs : s' = s) (hn : n.val = 1000 + k.val) (hd : d.val = e.val) :
    promptOut m c s k e = slab m c s' n d := by
  obtain rfl := Fin.ext hd
  subst hs
  exact ((dif_neg (show ¬n.val < 1000 by omega)).trans
    (congrArg (fun i => promptOut m c s' i d) (Fin.ext (show n.val - 1000 = k.val by omega)))).symm

/-! ## Where the windows and the loads stand -/

/-- The block indices of the windows at point `t`: whole arrays for the prefixes and contexts, the two suffix rows of the
    point's tokens (kept within the suffix) for the suffixes, the point's pair of tokens for the result. -/
theorem idx : ∀ t : Fin cfg0.N,
    win0_0.index t = ![0, 0, 0] ∧ win0_1.index t = ![0, 0, 0]
    ∧ win0_2.index t = ![min (2 * (38 - t.val) - 17) 59, 0, 0] ∧ win0_3.index t = ![min (2 * (38 - t.val) + 1 - 17) 59, 0, 0]
    ∧ win0_4.index t = ![min (2 * (38 - t.val) - 17) 59, 0, 0] ∧ win0_5.index t = ![min (2 * (38 - t.val) + 1 - 17) 59, 0, 0]
    ∧ win0_6.index t = ![0, 0] ∧ win0_7.index t = ![0, 0] ∧ win0_8.index t = ![38 - t.val, 0, 0] :=
  (by decide +kernel : ∀ t : Fin grid0.N, _)

/-- The context row loaded for the even token, -/
theorem off_even : ∀ t : Fin cfg0.N, 30 ≤ t.val → k0_off1 (grid0.coords t) = ![2 * (38 - t.val) - 1, 0] :=
  (by decide +kernel : ∀ t : Fin grid0.N, _)

/-- and for the odd one. -/
theorem off_odd : ∀ t : Fin cfg0.N, 31 ≤ t.val → k0_off2 (grid0.coords t) = ![2 * (38 - t.val) + 1 - 1, 0] :=
  (by decide +kernel : ∀ t : Fin grid0.N, _)

/-- A loaded context row holds that row. -/
theorem row_ld (v : Vec F S16x512 .f32) {off : Fin 2 → ℕ} (inb) {k : Fin 16} (h : off = ![k.val, 0]) (x : S1x512.Idx) :
    View.ld v (Rect.unit (s := S16x512) off ![1, 512] inb) x = v (ix2 k (x 1)) := by
  subst h
  pointwise
  blk_ext

/-! ## The input blocks -/

/-- The in-distribution suffixes as the kernel finds them: token-major. -/
theorem V_suf (c : Dev nD) : V m c main_v0
    = transpose S60x1000x512 [1, 0, 2] (m ((c.tc : Thread nD τ).loc main_arg3)) transposes_S1000x60x512_S60x1000x512_1_0_2 := by
  simp only [V, V0, hostOps0, List.flatten_cons, List.flatten_nil, List.append_nil]
  after_results; try rfl

/-- The out-of-distribution suffixes as the kernel finds them: token-major. -/
theorem V_osuf (c : Dev nD) : V m c main_v1
    = transpose S60x100x512 [1, 0, 2] (m ((c.tc : Thread nD τ).loc main_arg5)) transposes_S100x60x512_S60x100x512_1_0_2 := by
  simp only [V, V0, hostOps0, List.flatten_cons, List.flatten_nil, List.append_nil]
  after_results; try rfl

/-- Window 2's block: the suffix row of the point's even token, for the 1000 classes of its kind. -/
theorem blk_2 (c : Dev nD) (t : Fin cfg0.N) (n : Fin 1000) (d : Fin 512) :
    iblk m c 2 t (ix3 0 n d) = m ((c.tc : Thread nD τ).loc main_arg3) (ix3 n ⟨min (2 * (38 - t.val) - 17) 59, by omega⟩ d) := by
  have hw : win0_2.index t = ![min (2 * (38 - t.val) - 17) 59, 0, 0] := (idx t).2.2.1
  unfold iblk
  blk_simp
  rw [V_suf]
  pointwise
  blk_ext [hw]

/-- Window 3's block: the suffix row of the point's odd token, for the 1000 classes of its kind. -/
theorem blk_3 (c : Dev nD) (t : Fin cfg0.N) (n : Fin 1000) (d : Fin 512) :
    iblk m c 3 t (ix3 0 n d) = m ((c.tc : Thread nD τ).loc main_arg3) (ix3 n ⟨min (2 * (38 - t.val) + 1 - 17) 59, by omega⟩ d) := by
  have hw : win0_3.index t = ![min (2 * (38 - t.val) + 1 - 17) 59, 0, 0] := (idx t).2.2.2.1
  unfold iblk
  blk_simp
  rw [V_suf]
  pointwise
  blk_ext [hw]

/-- Window 4's block: the suffix row of the point's even token, for the 100 classes of its kind. -/
theorem blk_4 (c : Dev nD) (t : Fin cfg0.N) (n : Fin 100) (d : Fin 512) :
    iblk m c 4 t (ix3 0 n d) = m ((c.tc : Thread nD τ).loc main_arg5) (ix3 n ⟨min (2 * (38 - t.val) - 17) 59, by omega⟩ d) := by
  have hw : win0_4.index t = ![min (2 * (38 - t.val) - 17) 59, 0, 0] := (idx t).2.2.2.2.1
  unfold iblk
  blk_simp
  rw [V_osuf]
  pointwise
  blk_ext [hw]

/-- Window 5's block: the suffix row of the point's odd token, for the 100 classes of its kind. -/
theorem blk_5 (c : Dev nD) (t : Fin cfg0.N) (n : Fin 100) (d : Fin 512) :
    iblk m c 5 t (ix3 0 n d) = m ((c.tc : Thread nD τ).loc main_arg5) (ix3 n ⟨min (2 * (38 - t.val) + 1 - 17) 59, by omega⟩ d) := by
  have hw : win0_5.index t = ![min (2 * (38 - t.val) + 1 - 17) 59, 0, 0] := (idx t).2.2.2.2.2.1
  unfold iblk
  blk_simp
  rw [V_osuf]
  pointwise
  blk_ext [hw]

/-- Window 0's block: the prefixes of the 1000 classes of its kind. -/
theorem blk_0 (c : Dev nD) (t : Fin cfg0.N) (n : Fin 1000) (d : Fin 512) :
    iblk m c 0 t (ix3 n 0 d) = m ((c.tc : Thread nD τ).loc main_arg2) (ix3 n 0 d) := by
  have hw : win0_0.index t = ![0, 0, 0] := (idx t).1
  unfold iblk
  blk_simp
  entry_read
  blk_ext [hw]

/-- Window 1's block: the prefixes of the 100 classes of its kind. -/
theorem blk_1 (c : Dev nD) (t : Fin cfg0.N) (n : Fin 100) (d : Fin 512) :
    iblk m c 1 t (ix3 n 0 d) = m ((c.tc : Thread nD τ).loc main_arg4) (ix3 n 0 d) := by
  have hw : win0_1.index t = ![0, 0, 0] := (idx t).2.1
  unfold iblk
  blk_simp
  entry_read
  blk_ext [hw]

/-- Window 6's block: the whole context of its kind. -/
theorem blk_6 (c : Dev nD) (t : Fin cfg0.N) (k : Fin 16) (d : Fin 512) :
    iblk m c 6 t (ix2 k d) = m ((c.tc : Thread nD τ).loc main_arg0) (ix2 k d) := by
  have hw : win0_6.index t = ![0, 0] := (idx t).2.2.2.2.2.2.1
  unfold iblk
  blk_simp
  entry_read
  blk_ext [hw]

/-- Window 7's block: the whole context of its kind. -/
theorem blk_7 (c : Dev nD) (t : Fin cfg0.N) (k : Fin 16) (d : Fin 512) :
    iblk m c 7 t (ix2 k d) = m ((c.tc : Thread nD τ).loc main_arg1) (ix2 k d) := by
  have hw : win0_7.index t = ![0, 0] := (idx t).2.2.2.2.2.2.2.1
  unfold iblk
  blk_simp
  entry_read
  blk_ext [hw]

/-! ## The stores -/

/-- The even token of the in-distribution classes, where it is a suffix row. -/
theorem even_suffix_in (c : Dev nD) (t : Fin cfg0.N) (h : t.val < 30) (x : S1x1000x512.Idx) :
    k0_pay5 (iblk m c 2 t) x = promptIn m c (2 * (38 - t.val)) (x 1) (x 2) := by
  refine Eq.trans ?_ ((blk_2 m c t (x 1) (x 2)).trans (prompt_suffix _ _ _ (by omega) _ _).symm)
  pointwise [k0_pay5]
  blk_ext

/-- The even token of the out-of-distribution classes, where it is a suffix row. -/
theorem even_suffix_out (c : Dev nD) (t : Fin cfg0.N) (h : t.val < 30) (x : S1x100x512.Idx) :
    k0_pay6 (iblk m c 4 t) x = promptOut m c (2 * (38 - t.val)) (x 1) (x 2) := by
  refine Eq.trans ?_ ((blk_4 m c t (x 1) (x 2)).trans (prompt_suffix _ _ _ (by omega) _ _).symm)
  pointwise [k0_pay6]
  blk_ext

/-- The odd token of the in-distribution classes, where it is a suffix row. -/
theorem odd_suffix_in (c : Dev nD) (t : Fin cfg0.N) (h : t.val < 31) (x : S1x1000x512.Idx) :
    k0_pay11 (iblk m c 3 t) x = promptIn m c (2 * (38 - t.val) + 1) (x 1) (x 2) := by
  refine Eq.trans ?_ ((blk_3 m c t (x 1) (x 2)).trans (prompt_suffix _ _ _ (by omega) _ _).symm)
  pointwise [k0_pay11]
  blk_ext

/-- The odd token of the out-of-distribution classes, where it is a suffix row. -/
theorem odd_suffix_out (c : Dev nD) (t : Fin cfg0.N) (h : t.val < 31) (x : S1x100x512.Idx) :
    k0_pay12 (iblk m c 5 t) x = promptOut m c (2 * (38 - t.val) + 1) (x 1) (x 2) := by
  refine Eq.trans ?_ ((blk_5 m c t (x 1) (x 2)).trans (prompt_suffix _ _ _ (by omega) _ _).symm)
  pointwise [k0_pay12]
  blk_ext

/-- A stored context row: every class gets the loaded row. -/
theorem pay3_at (v : Vec F S1x512 .f32) (x : S1x1000x512.Idx) : k0_pay3 v x = v (ix2 0 (x 2)) := by
  pointwise [k0_pay3]

/-- A stored context row: every class gets the loaded row. -/
theorem pay4_at (v : Vec F S1x512 .f32) (x : S1x100x512.Idx) : k0_pay4 v x = v (ix2 0 (x 2)) := by
  pointwise [k0_pay4]

/-- A stored context row: every class gets the loaded row. -/
theorem pay9_at (v : Vec F S1x512 .f32) (x : S1x1000x512.Idx) : k0_pay9 v x = v (ix2 0 (x 2)) := by
  pointwise [k0_pay9]

/-- A stored context row: every class gets the loaded row. -/
theorem pay10_at (v : Vec F S1x512 .f32) (x : S1x100x512.Idx) : k0_pay10 v x = v (ix2 0 (x 2)) := by
  pointwise [k0_pay10]

/-- Row `s - 1` of the in-distribution context, loaded at token `s`, is the token of every class of that kind. -/
theorem ctx_ld_in (c : Dev nD) (t : Fin cfg0.N) {s : ℕ} (h0 : s ≠ 0) (h : s < 17) {off : Fin 2 → ℕ} (ho : off = ![s - 1, 0])
    (inb) (n : Fin 1000) (d : Fin 512) :
    View.ld (iblk m c 6 t) (Rect.unit (s := S16x512) off ![1, 512] inb) (ix2 0 d) = promptIn m c s n d :=
  (row_ld (iblk m c 6 t) inb (k := ⟨s - 1, by omega⟩) ho (ix2 0 d)).trans
    ((blk_6 m c t ⟨s - 1, by omega⟩ d).trans (prompt_ctx _ _ _ h0 h n d).symm)

/-- Row `s - 1` of the out-of-distribution context, loaded at token `s`, is the token of every class of that kind. -/
theorem ctx_ld_out (c : Dev nD) (t : Fin cfg0.N) {s : ℕ} (h0 : s ≠ 0) (h : s < 17) {off : Fin 2 → ℕ} (ho : off = ![s - 1, 0])
    (inb) (n : Fin 100) (d : Fin 512) :
    View.ld (iblk m c 7 t) (Rect.unit (s := S16x512) off ![1, 512] inb) (ix2 0 d) = promptOut m c s n d :=
  (row_ld (iblk m c 7 t) inb (k := ⟨s - 1, by omega⟩) ho (ix2 0 d)).trans
    ((blk_7 m c t ⟨s - 1, by omega⟩ d).trans (prompt_ctx _ _ _ h0 h n d).symm)

/-- Token 0 of the in-distribution classes: the prefix rows. -/
theorem prefix_in (c : Dev nD) (t : Fin cfg0.N) (h : ¬t.val < 38) (x : S1x1000x512.Idx) :
    k0_pay1 (iblk m c 0 t) x = promptIn m c (2 * (38 - t.val)) (x 1) (x 2) := by
  refine Eq.trans ?_ ((blk_0 m c t (x 1) (x 2)).trans (prompt_prefix _ _ _ (by omega) _ _).symm)
  pointwise [k0_pay1]
  blk_ext

/-- Token 0 of the out-of-distribution classes: the prefix rows. -/
theorem prefix_out (c : Dev nD) (t : Fin cfg0.N) (h : ¬t.val < 38) (x : S1x100x512.Idx) :
    k0_pay2 (iblk m c 1 t) x = promptOut m c (2 * (38 - t.val)) (x 1) (x 2) := by
  refine Eq.trans ?_ ((blk_1 m c t (x 1) (x 2)).trans (prompt_prefix _ _ _ (by omega) _ _).symm)
  pointwise [k0_pay2]
  blk_ext

/-- Point `t` leaves tokens `2 * (38 - t)` and `2 * (38 - t) + 1` of all classes in the result's staging buffer. -/
theorem leaves_at (c : Dev nD) (t : Fin cfg0.N) (y : S2x1100x512.Idx) :
    leaves m c t y = slab m c (2 * (38 - t.val) + (y 0).val) (y 1) (y 2) := by
  unfold leaves
  refine pieces_cases m c t (Q := fun L => VO0_8.read (Elt F) (VO0_8.writes (Elt F) VO0_8.junk L) y = _)
    (fun h => ?_) (fun h h' => ?_) (fun h h' => ?_) (fun h => ?_)
  · unfold runA; frame_out
    canon_tiles x e using (View.cover_of_tiledBy _ ![1, 100, 512] (by sl_kernel_rfl) _)
    · exact (odd_suffix_out m c t (by omega) x).trans (slab_out m c (by omega) e1 e2)
    · exact (odd_suffix_in m c t (by omega) x).trans (slab_in m c (by omega) e1 e2)
    · exact (even_suffix_out m c t (by omega) x).trans (slab_out m c (by omega) e1 e2)
    · exact (even_suffix_in m c t (by omega) x).trans (slab_in m c (by omega) e1 e2)
  · unfold runB; frame_out
    canon_tiles x e using (View.cover_of_tiledBy _ ![1, 100, 512] (by sl_kernel_rfl) _)
    · exact (odd_suffix_out m c t (by omega) x).trans (slab_out m c (by omega) e1 e2)
    · exact (odd_suffix_in m c t (by omega) x).trans (slab_in m c (by omega) e1 e2)
    · exact ((pay4_at _ x).trans (ctx_ld_out m c t (by omega) (by omega) (off_even t (by omega)) _ (x 1) (x 2))).trans (slab_out m c (by omega) e1 e2)
    · exact ((pay3_at _ x).trans (ctx_ld_in m c t (by omega) (by omega) (off_even t (by omega)) _ (x 1) (x 2))).trans (slab_in m c (by omega) e1 e2)
  · unfold runC; frame_out
    canon_tiles x e using (View.cover_of_tiledBy _ ![1, 100, 512] (by sl_kernel_rfl) _)
    · exact ((pay10_at _ x).trans (ctx_ld_out m c t (by omega) (by omega) (off_odd t (by omega)) _ (x 1) (x 2))).trans (slab_out m c (by omega) e1 e2)
    · exact ((pay9_at _ x).trans (ctx_ld_in m c t (by omega) (by omega) (off_odd t (by omega)) _ (x 1) (x 2))).trans (slab_in m c (by omega) e1 e2)
    · exact ((pay4_at _ x).trans (ctx_ld_out m c t (by omega) (by omega) (off_even t (by omega)) _ (x 1) (x 2))).trans (slab_out m c (by omega) e1 e2)
    · exact ((pay3_at _ x).trans (ctx_ld_in m c t (by omega) (by omega) (off_even t (by omega)) _ (x 1) (x 2))).trans (slab_in m c (by omega) e1 e2)
  · unfold runD; frame_out
    canon_tiles x e using (View.cover_of_tiledBy _ ![1, 100, 512] (by sl_kernel_rfl) _)
    · exact ((pay10_at _ x).trans (ctx_ld_out m c t (by omega) (by omega) (off_odd t (by omega)) _ (x 1) (x 2))).trans (slab_out m c (by omega) e1 e2)
    · exact ((pay9_at _ x).trans (ctx_ld_in m c t (by omega) (by omega) (off_odd t (by omega)) _ (x 1) (x 2))).trans (slab_in m c (by omega) e1 e2)
    · exact (prefix_out m c t h x).trans (slab_out m c (by omega) e1 e2)
    · exact (prefix_in m c t h x).trans (slab_in m c (by omega) e1 e2)

end Cert.Prompt

end
-- ==== Proof.Result.lean ====
/-
  WHAT THE PROGRAM RETURNS. The token-major array the kernel writes holds every token slab (`tokens`); the program returns
  it class-major (`value_run`): row `s` of class `n` is token `s` of the prompt of class `n`.
-/
module

public import proofs.«01_k».proof.Proof.Slabs

@[expose] public section

set_option maxRecDepth 16384

noncomputable section

namespace Cert.Prompt

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A slab read at equal coordinates. -/
theorem slab_congr (c : Dev nD) {s s' : ℕ} {n n' : Fin 1100} {d d' : Fin 512} (hs : s = s') (hn : n.val = n'.val) (hd : d.val = d'.val) :
    slab m c s n d = slab m c s' n' d' := by
  rw [hs, Fin.ext hn, Fin.ext hd]

/-- The array the kernel writes, after the last point: token `s` of class `n` at `(s, n)`. The last pair of tokens overhangs
    the array by one, which is not written back. -/
theorem tokens (c : Dev nD) : (dats m 0 c).arrAt 8 (cfgs 0).N
    = fun i : S77x1100x512.Idx => slab m c (i 0).val (i 1) (i 2) := by
  refine (dats m 0 c).arrAt_eq_of_covers 8 _ (by decide +kernel) fun t hf y => ?_
  have hw : win0_8.index t = ![38 - t.val, 0, 0] := (idx t).2.2.2.2.2.2.2.2
  blk_simp
  rw [after_8, leaves_at]
  refine slab_congr m c ?_ ?_ ?_
  · rw [hw]
    show 2 * (38 - t.val) + (y 0).val = (38 - t.val) * 2 + (y 0).val
    omega
  · blk_simp [hw]
  · blk_simp [hw]

/-- The array returned is the kernel's, its first two axes exchanged. -/
theorem W_out (c : Dev nD) : Pipeline.afterTail₀ cfgs (dats m) 0 (V0 m) [hostOps1] c main_v3
    = transpose S1100x77x512 [1, 0, 2] ((dats m 0 c).arrAt 8 (cfgs 0).N) transposes_S77x1100x512_S1100x77x512_1_0_2 := by
  simp only [Pipeline.afterTail₀, hostOps1, List.flatten_cons, List.flatten_nil, List.append_nil]
  after_results
  exact congrArg (fun a => transpose S1100x77x512 [1, 0, 2] a transposes_S77x1100x512_S1100x77x512_1_0_2)
    ((dats m 0 c).withArrays_arrAt sharedIn0 (V0 m c) (A_eq m c) 8)

/-- Every run ends with row `s` of class `n` of the result at token `s` of the prompt of class `n`. -/
theorem value_run : θ_run defs (onTc (τ := τ) (main (F := F))) ⟨m, fun _ => 0, ρ⟩ (fun r => ∀ c : Dev nD,
      r.2.mem ((c.tc : Thread nD τ).loc main_v3) = (fun j : S1100x77x512.Idx => slab m c (j 1).val (j 0) (j 2))) := by
  refine (θ_run defs _ _).mono (fun _ h c => ?_) (run_main m ρ)
  refine ((h c).2 main_v3 (Pipeline.mem_restRefs_of main_v3 (by decide) (by decide))).trans ?_
  rw [W_out, tokens]
  funext j
  pointwise

end Cert.Prompt

end
-- ==== Proof.Reference.lean ====
/-
  WHAT THE REFERENCE COMPUTES. The reference joins prefix, context (repeated over the classes) and suffix along the token
  axis for each of the two class sets, then joins the two sets along the class axis. Read at one entry, each set's array is
  the prompt of its class (`joined_in`, `joined_out`), and the whole is the token slab the kernel leaves there (`joined_slab`).
-/
module

public import proofs.«01_k».proof.Proof.Slabs
public import proofs.«01_k».proof.Proof.Gen.ReferenceIdeal.Run

@[expose] public section

set_option maxRecDepth 16384

noncomputable section

namespace Cert.Prompt

open Cert.ReferenceIdeal Cert.ReferenceIdeal.Gen
open Idealize.ShloMosaic Idealize.ShloMosaic.TcCoe

variable {F : FTy → Type} [FloatOps F]

/-- The in-distribution set: prefix, repeated context and suffix, joined along the token axis. -/
def joinedIn (ctx : Vec F S16x512 .f32) (pre : Vec F S1000x1x512 .f32) (suf : Vec F S1000x60x512 .f32) : Vec F S1000x77x512 .f32 :=
  concatenate S1000x77x512 1 [⟨S1000x1x512, pre⟩,
    ⟨S1000x16x512, broadcastInDim S1000x16x512 ![0, 1, 2] bcast_S1x16x512_S1000x16x512_0_1_2 (broadcastInDim S1x16x512 ![1, 2] bcast_S16x512_S1x16x512_1_2 ctx)⟩,
    ⟨S1000x60x512, suf⟩] concatenates_S1000x1x512_S1000x16x512_S1000x60x512_S1000x77x512_d1

/-- The out-of-distribution set, joined the same way. -/
def joinedOut (ctx : Vec F S16x512 .f32) (pre : Vec F S100x1x512 .f32) (suf : Vec F S100x60x512 .f32) : Vec F S100x77x512 .f32 :=
  concatenate S100x77x512 1 [⟨S100x1x512, pre⟩,
    ⟨S100x16x512, broadcastInDim S100x16x512 ![0, 1, 2] bcast_S1x16x512_S100x16x512_0_1_2 (broadcastInDim S1x16x512 ![1, 2] bcast_S16x512_S1x16x512_1_2 ctx)⟩,
    ⟨S100x60x512, suf⟩] concatenates_S100x1x512_S100x16x512_S100x60x512_S100x77x512_d1

/-- What a join along the token axis reads as, entry by entry, is the prompt. -/
theorem prompt_of_join {N : ℕ} (ctx : Vec F S16x512 .f32) (pre : Vec F ⟨3, ![N, 1, 512]⟩ .f32) (suf : Vec F ⟨3, ![N, 60, 512]⟩ .f32)
    (n : Fin N) (s : Fin 77) (d : Fin 512) :
    (if h : s.val < 1 then pre (ix3 n ⟨s.val, h⟩ d)
      else if h : s.val - 1 < 16 then ctx (ix2 ⟨s.val - 1, h⟩ d)
      else suf (ix3 n ⟨s.val - 1 - 16, by omega⟩ d)) = prompt ctx pre suf s.val n d := by
  by_cases h0 : s.val = 0
  · rw [prompt_prefix ctx pre suf h0, dif_pos (show s.val < 1 by omega)]
    exact congrArg (fun k => pre (ix3 n k d)) (Fin.ext h0)
  · rw [dif_neg (show ¬s.val < 1 by omega)]
    by_cases h : s.val < 17
    · rw [prompt_ctx ctx pre suf h0 h, dif_pos (show s.val - 1 < 16 by omega)]
    · rw [prompt_suffix ctx pre suf (show 17 ≤ s.val by omega), dif_neg (show ¬s.val - 1 < 16 by omega)]
      exact congrArg (fun k => suf (ix3 n k d)) (Fin.ext (show s.val - 1 - 16 = min (s.val - 17) 59 by omega))

/-- Row `s` of class `n` of the in-distribution set is token `s` of that class's prompt, -/
theorem joined_in (ctx : Vec F S16x512 .f32) (pre : Vec F S1000x1x512 .f32) (suf : Vec F S1000x60x512 .f32) (n : Fin 1000) (s : Fin 77) (d : Fin 512) :
    joinedIn ctx pre suf (ix3 n s d) = prompt ctx pre suf s.val n d := by
  unfold joinedIn
  pointwise
  exact prompt_of_join ctx pre suf n s d

/-- and of the out-of-distribution set likewise. -/
theorem joined_out (ctx : Vec F S16x512 .f32) (pre : Vec F S100x1x512 .f32) (suf : Vec F S100x60x512 .f32) (n : Fin 100) (s : Fin 77) (d : Fin 512) :
    joinedOut ctx pre suf (ix3 n s d) = prompt ctx pre suf s.val n d := by
  unfold joinedOut
  pointwise
  exact prompt_of_join ctx pre suf n s d

/-- The two sets joined along the class axis. -/
def joined (a : Vec F S1000x77x512 .f32) (b : Vec F S100x77x512 .f32) : Vec F S1100x77x512 .f32 :=
  concatenate S1100x77x512 0 [⟨S1000x77x512, a⟩, ⟨S100x77x512, b⟩] concatenates_S1000x77x512_S100x77x512_S1100x77x512_d0

/-- Below class 1000 the whole reads the first set, from there on the second. -/
theorem joined_at (a : Vec F S1000x77x512 .f32) (b : Vec F S100x77x512 .f32) (n : Fin 1100) (s : Fin 77) (d : Fin 512) :
    joined a b (ix3 n s d) = if h : n.val < 1000 then a (ix3 ⟨n.val, h⟩ s d) else b (ix3 ⟨n.val - 1000, by omega⟩ s d) := by
  unfold joined
  pointwise

/-- On the kernel's argument arrays the reference's result is the token slabs, class-major. -/
theorem joined_slab (m : (ℓ : Loc Cert.KernelIdeal.nD Cert.KernelIdeal.τ Cert.KernelIdeal.sig) → Buf (Elt F) ℓ) (c : Dev Cert.KernelIdeal.nD) :
    joined
      (joinedIn (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (joinedOut (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
    = fun j : S1100x77x512.Idx => slab m c (j 1).val (j 0) (j 2) := by
  funext j
  refine (congrArg (joined _ _) (eq_ix3 j)).trans ((joined_at _ _ (j 0) (j 1) (j 2)).trans ?_)
  exact dite_congr rfl (fun h => joined_in _ _ _ _ _ _) (fun h => joined_out _ _ _ _ _ _)

end Cert.Prompt

end
-- ==== Proof.lean ====
/-
  THE CLAIMS ASSEMBLED. Proof/Run.lean proves the frame of `KernelIdeal` at any float values; `Kernel` is the same program
  (`defs_eq`), so its frame is that one at bit patterns. The reference's frame is its run read at the arguments. The equation: the kernel returns the token slabs class-major
  (Proof/Result.lean `value_run`), and so does the reference (Proof/Reference.lean `joined_slab`).
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Result
public import proofs.«01_k».proof.Proof.Reference
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem

/-- The facts the programs state, as the generated modules prove them. -/
local instance : Cert.Kernel.Facts := Cert.Kernel.Gen.facts
local instance : Cert.KernelIdeal.Facts := Cert.KernelIdeal.Gen.facts
local instance : Cert.ReferenceIdeal.Facts := Cert.ReferenceIdeal.Gen.facts

/-- The kernel's body at a grid point is the same program as printed and as idealized, -/
theorem defs₀_eq {F : FTy → Type} [FloatOps F] : Cert.Kernel.defs₀ (F := F) = Cert.KernelIdeal.defs₀ (F := F) := by
  refine congrArg Defs.onTc (funext fun ℓ => ?_)
  match ℓ with
  | 0 => exact funext fun _ => rfl

/-- and so is the pipeline around it. -/
theorem defs_eq {F : FTy → Type} [FloatOps F] : Cert.Kernel.defs (F := F) = Cert.KernelIdeal.defs (F := F) :=
  congrArg (Pipeline.defs Cert.KernelIdeal.pcfgs) defs₀_eq

/-- The kernel's frame: it ends with its arguments unchanged and its counters at zero. -/
theorem frame_kernel : Cert.quiescent_Kernel := fun m ρ _ => by
  rw [defs_eq]
  exact Cert.Prompt.frame (F := Bits) m ρ

/-- The frame of the kernel read at exact arithmetic. -/
theorem frame_ideal : Cert.quiescent_KernelIdeal := fun m ρ _ => Cert.Prompt.frame m ρ

/-- The reference's frame: its run leaves the arguments as they were, and it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with equal results: row `s` of class `n` is token `s` of the prompt of class `n` in both. -/
theorem equal : Cert.algebraic_KernelIdeal_ReferenceIdeal := fun m ρ m' ρ' _ hargs =>
  ⟨fun c => fun j : Cert.KernelIdeal.S1100x77x512.Idx => Cert.Prompt.slab m c (j 1).val (j 0) (j 2),
    (θ_run Cert.KernelIdeal.defs _ _).mono (fun _ h c => ⟨h.1 c, h.2 c⟩)
      (θ_run_and (Cert.Prompt.value_run m ρ) (Cert.Prompt.unchanged m ρ)),
    (θ_run Cert.ReferenceIdeal.defs _ _).mono (fun r h c => ⟨by
        obtain ⟨h0, h1, h2, h3, h4, h5⟩ := hargs c
        have e := (h c).1
        rw [h0, h1, h2, h3, h4, h5] at e
        exact e.trans (Cert.Prompt.joined_slab m c), (h c).2⟩)
      (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, equal⟩

end Cert.Proof

end
